-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x256 : Shape := ⟨3, ![1, 4096, 256]⟩
abbrev S1x4096x4096 : Shape := ⟨3, ![1, 4096, 4096]⟩
abbrev S4096 : Shape := ⟨1, ![4096]⟩
abbrev S256x256 : Shape := ⟨2, ![256, 256]⟩
abbrev S256 : Shape := ⟨1, ![256]⟩
abbrev S_ : Shape := ⟨0, ![]⟩
abbrev S4096x256 : Shape := ⟨2, ![4096, 256]⟩
abbrev S4096x4096 : Shape := ⟨2, ![4096, 4096]⟩
abbrev S1x256 : Shape := ⟨2, ![1, 256]⟩
abbrev S1x1 : Shape := ⟨2, ![1, 1]⟩
abbrev S512x4096 : Shape := ⟨2, ![512, 4096]⟩
abbrev S1024x256 : Shape := ⟨2, ![1024, 256]⟩
abbrev S512x256 : Shape := ⟨2, ![512, 256]⟩
abbrev S1024x4096 : Shape := ⟨2, ![1024, 4096]⟩

abbrev nBuf : Space → Nat
  | .hbm => 13
  | .vmem => 11
  | .smem => 0
  | _ => 0

abbrev bufTy : (tb : Table) → Fin (tcTables nBuf tb) → BufTy
  | .hbm, ⟨0, _⟩ => ⟨S1x4096x256, .f32⟩
  | .hbm, ⟨1, _⟩ => ⟨S1x4096x4096, .f32⟩
  | .hbm, ⟨2, _⟩ => ⟨S4096, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S4096x256, .f32⟩
  | .hbm, ⟨7, _⟩ => ⟨S4096x256, .bf16⟩
  | .hbm, ⟨8, _⟩ => ⟨S4096x4096, .f32⟩
  | .hbm, ⟨9, _⟩ => ⟨S1x256, .f32⟩
  | .hbm, ⟨10, _⟩ => ⟨S1x1, .f32⟩
  | .hbm, ⟨11, _⟩ => ⟨S256x256, .bf16⟩
  | .hbm, ⟨12, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S256x256, .bf16⟩
  | .local _ .vmem, ⟨4, _⟩ => ⟨S1x256, .f32⟩
  | .local _ .vmem, ⟨5, _⟩ => ⟨S1x1, .f32⟩
  | .local _ .vmem, ⟨6, _⟩ => ⟨S1024x256, .f32⟩
  | .local _ .vmem, ⟨7, _⟩ => ⟨S1024x256, .f32⟩
  | .local _ .vmem, ⟨8, _⟩ => ⟨S4096x4096, .bf16⟩
  | .local _ .vmem, ⟨9, _⟩ => ⟨S4096x256, .f32⟩
  | .local _ .vmem, ⟨10, _⟩ => ⟨S4096x256, .bf16⟩
  | _, _ => ⟨S1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c512_i32 : BitVec 32 := 512#32
  let v9 : BitVec 32 := Scalar.muli arg0 c512_i32
  let v13 : Index := Scalar.indexCast v9
  let c0_5 : Index := 0#32
  ![v13.toNat, 0]
def k0_off2 (i : grid0.Coords) : Fin 2 → Nat :=
  let arg0 : BitVec 32 := BitVec.ofNat 32 (i 0).val
  let c512_i32 : BitVec 32 := 512#32
  let v9 : BitVec 32 := Scalar.muli arg0 c512_i32
  let v24 : Index := Scalar.indexCast v9
  let c0_10 : Index := 0#32
  ![v24.toNat, 0]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let arg0 : BitVec 32 := BitVec.ofNat 32 (i 0).val
  let c8_i32_4 : BitVec 32 := 8#32
  let v9 : BitVec 32 := Scalar.subi arg0 c8_i32_4
  let c1024_i32 : BitVec 32 := 1024#32
  let v10 : BitVec 32 := Scalar.muli v9 c1024_i32
  let v11 : Index := Scalar.indexCast v10
  let c0 : Index := 0#32
  ![v11.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x4096x256 : Shape := ⟨3, ![1, 4096, 256]⟩
abbrev S1x4096x4096 : Shape := ⟨3, ![1, 4096, 4096]⟩
abbrev S4096 : Shape := ⟨1, ![4096]⟩
abbrev S256x256 : Shape := ⟨2, ![256, 256]⟩
abbrev S256 : Shape := ⟨1, ![256]⟩
abbrev S_ : Shape := ⟨0, ![]⟩
abbrev S1x1x256 : Shape := ⟨3, ![1, 1, 256]⟩
abbrev S4096x256 : Shape := ⟨2, ![4096, 256]⟩

abbrev nBuf : Space → Nat
  | .hbm => 22
  | .vmem => 0
  | .smem => 0
  | _ => 0

abbrev bufTy : (tb : Table) → Fin (tcTables nBuf tb) → BufTy
  | .hbm, ⟨0, _⟩ => ⟨S1x4096x256, .f32⟩
  | .hbm, ⟨1, _⟩ => ⟨S1x4096x4096, .f32⟩
  | .hbm, ⟨2, _⟩ => ⟨S4096, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S1x4096x256, .f32⟩
  | .hbm, ⟨7, _⟩ => ⟨S1x4096x256, .f32⟩
  | .hbm, ⟨8, _⟩ => ⟨S1x1x256, .f32⟩
  | .hbm, ⟨9, _⟩ => ⟨S1x4096x256, .f32⟩
  | .hbm, ⟨10, _⟩ => ⟨S1x4096x256, .f32⟩
  | .hbm, ⟨11, _⟩ => ⟨S1x4096x256, .f32⟩
  | .hbm, ⟨12, _⟩ => ⟨S1x1x256, .f32⟩
  | .hbm, ⟨13, _⟩ => ⟨S1x4096x256, .f32⟩
  | .hbm, ⟨14, _⟩ => ⟨S1x4096x256, .f32⟩
  | .hbm, ⟨15, _⟩ => ⟨S_, .f32⟩
  | .hbm, ⟨16, _⟩ => ⟨S1x4096x256, .f32⟩
  | .hbm, ⟨17, _⟩ => ⟨S1x4096x256, .i1⟩
  | .hbm, ⟨18, _⟩ => ⟨S1x4096x256, .f32⟩
  | .hbm, ⟨19, _⟩ => ⟨S1x4096x256, .f32⟩
  | .hbm, ⟨20, _⟩ => ⟨S1x4096x256, .f32⟩
  | .hbm, ⟨21, _⟩ => ⟨S4096x256, .f32⟩
  | _, _ => ⟨S1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Rows.lean ====
/- Row blocks of a two-axis array: what it means for a block to have been stored over some of an array's rows, and
   for the rows below a bound to be known. The kernel fills two of its scratch arrays a block of rows at a time, and
   the loop invariant of the certificate is stated with these two notions. -/
module

public import Idealize.ShloMosaic.Lib.WritesUnit
public import Idealize.ShloMosaic.Lib.Pipeline.FrameBody

@[expose] public section

namespace Cert.Rows

open Idealize.ShloMosaic

/-- `new` is `old` with the block `blk` laid over the whole rows starting at row `o`. -/
structure Put {α : Type} {d e : Fin 2 → ℕ} (o : ℕ) (blk : (⟨2, e⟩ : Shape).Idx → α)
    (old new : (⟨2, d⟩ : Shape).Idx → α) : Prop where
  /-- inside the block's rows, the block -/
  inside : ∀ (x : (⟨2, e⟩ : Shape).Idx) (y : (⟨2, d⟩ : Shape).Idx),
    (y (0 : Fin 2)).val = o + (x (0 : Fin 2)).val → (y (1 : Fin 2)).val = (x (1 : Fin 2)).val → new y = blk x
  /-- elsewhere, what was there -/
  outside : ∀ y : (⟨2, d⟩ : Shape).Idx,
    (y (0 : Fin 2)).val < o ∨ o + e (0 : Fin 2) ≤ (y (0 : Fin 2)).val → new y = old y

/-- The first `n` rows of `x` are those of `G`. -/
def Known {α : Type} {d : Fin 2 → ℕ} (n : ℕ) (G x : (⟨2, d⟩ : Shape).Idx → α) : Prop :=
  ∀ y : (⟨2, d⟩ : Shape).Idx, (y (0 : Fin 2)).val < n → x y = G y

/-- Before any row is written nothing is claimed. -/
theorem Known.start {α : Type} {d : Fin 2 → ℕ} (G x : (⟨2, d⟩ : Shape).Idx → α) : Known 0 G x :=
  fun _ h => absurd h (Nat.not_lt_zero _)

/-- Once every row is known the array is known. -/
theorem Known.all {α : Type} {d : Fin 2 → ℕ} {n : ℕ} {G x : (⟨2, d⟩ : Shape).Idx → α} (h : Known n G x)
    (hn : d (0 : Fin 2) ≤ n) : x = G :=
  funext fun y => h y (Nat.lt_of_lt_of_le (y (0 : Fin 2)).isLt hn)

/-- Laying the next block of `G`'s rows over an array whose rows below it are known makes the block's rows known too. -/
theorem Known.step {α : Type} {d e : Fin 2 → ℕ} {o : ℕ} {blk : (⟨2, e⟩ : Shape).Idx → α}
    {G old new : (⟨2, d⟩ : Shape).Idx → α} (hk : Known o G old) (hp : Put o blk old new)
    (hcol : e (1 : Fin 2) = d (1 : Fin 2))
    (hblk : ∀ (x : (⟨2, e⟩ : Shape).Idx) (y : (⟨2, d⟩ : Shape).Idx),
      (y (0 : Fin 2)).val = o + (x (0 : Fin 2)).val → (y (1 : Fin 2)).val = (x (1 : Fin 2)).val → blk x = G y) :
    Known (o + e (0 : Fin 2)) G new := by
  intro y hy
  rcases Nat.lt_or_ge (y (0 : Fin 2)).val o with hlo | hhi
  · rw [hp.outside y (.inl hlo)]
    exact hk y hlo
  · have h0 : (y (0 : Fin 2)).val - o < e (0 : Fin 2) := by omega
    have h1 : (y (1 : Fin 2)).val < e (1 : Fin 2) := hcol ▸ (y (1 : Fin 2)).isLt
    let x : (⟨2, e⟩ : Shape).Idx := Fin.cons ⟨(y (0 : Fin 2)).val - o, h0⟩ (Fin.cons ⟨(y (1 : Fin 2)).val, h1⟩ finZeroElim)
    have e0 : (y (0 : Fin 2)).val = o + (x (0 : Fin 2)).val := by
      show _ = o + ((y (0 : Fin 2)).val - o)
      omega
    exact (hp.inside x y e0 rfl).trans (hblk x y e0 rfl)

/-- What a store of whole rows leaves: the payload over those rows, the rest as it was. -/
theorem put_of_store {sig : RefSig} {κ : Kind} {sp : Space} {t : EltTy} {Val : EltTy → Type} {d size : Fin 2 → ℕ}
    (v : View sig κ sp (⟨2, d⟩ : Shape) t) (f : v.ty.Contents Val) {off : Fin 2 → ℕ} {o : ℕ}
    (inb : ∀ a : Fin 2, off a + size a ≤ d a) (w : (⟨2, size⟩ : Shape).Idx → Val t) (hoff : off = ![o, 0])
    (old : (⟨2, d⟩ : Shape).Idx → Val t) (hold : v.read Val f = old) :
    Put o w old (v.read Val (v.writes Val f [⟨Rect.unit (s := ⟨2, d⟩) off size inb, w⟩])) where
  inside x y h0 h1 := View.read_writes_cons_rows_of_mem v f inb w [] y x hoff h0 h1
  outside y h := by
    rw [View.read_writes_cons_rows_of_not_mem v f inb w [] y hoff rfl h, ← hold]
    rfl

end Cert.Rows

end
-- ==== Proof.Body.lean ====
/- One run of the kernel's body, in each of the three situations a grid point can be in: the first point, a later
   point that still fills the scratch arrays, and a point that writes an output block. Each theorem says, from whatever
   the buffers hold, what they hold afterwards. -/
module

public import proofs.«01_k».proof.Proof.Gen.KernelIdeal.Skeleton
public import proofs.«01_k».proof.Proof.Gen.KernelIdeal.Frame
public import proofs.«01_k».proof.Proof.Rows
public import Idealize.ShloMosaic.Lib.VecWindow

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The three branch conditions, and the row offsets, of a grid point -/

/-- The point is the first one, as the body tests it. -/
abbrev IsFirst (i : grid0.Coords) : Prop :=
  (Scalar.cmpi .ne (Scalar.extui (Scalar.cmpi .eq (BitVec.ofNat 32 (i 0).val) 0#32)) 0#32) = 1#1
/-- The point fills rows of the scratch arrays. -/
abbrev IsFill (i : grid0.Coords) : Prop := k0_cond2 i = 1#1
/-- The point writes an output block. -/
abbrev IsOut (i : grid0.Coords) : Prop := k0_cond3 i = 1#1

theorem isFirst_iff : ∀ t : Fin grid0.N, IsFirst (grid0.coords t) ↔ t.val = 0 := by decide +kernel
theorem isFill_iff : ∀ t : Fin grid0.N, IsFill (grid0.coords t) ↔ t.val < 8 := by decide +kernel
theorem isOut_iff : ∀ t : Fin grid0.N, IsOut (grid0.coords t) ↔ 8 ≤ t.val := by decide +kernel

/-- A filling point stores its block of the first scratch array at row `512 t`, -/
theorem off1_eq : ∀ t : Fin grid0.N, k0_off1 (grid0.coords t) = ![512 * t.val, 0] := by decide +kernel
/-- and its block of the third one at the same row; -/
theorem off2_eq : ∀ t : Fin grid0.N, k0_off2 (grid0.coords t) = ![512 * t.val, 0] := by decide +kernel
/-- an output point reads the first scratch array from row `1024 (t - 8)` on. -/
theorem off3_eq : ∀ t : Fin grid0.N, 8 ≤ t.val → k0_off3 (grid0.coords t) = ![1024 * (t.val - 8), 0] := by decide +kernel

/-! ## Loads -/

/-- A load of the whole buffer reads its contents. -/
theorem load_all {κ : Kind} {sp : Space} {s : Shape} {e : EltTy} (v : View sig κ sp s e) (f : v.ty.Contents (Elt F))
    {x : s.Idx → Elt F e} (hf : v.read (Elt F) f = x) {off : Fin s.rank → ℕ}
    (inb : ∀ a, off a + s.size a ≤ s.size a) :
    v.readAt (Elt F) (Rect.unit off s.size inb).toLoadRect f = x := by
  rw [View.readAt_full, hf]

/-- A load of whole rows from row `o` on reads those rows of the contents. -/
theorem load_rows {κ : Kind} {sp : Space} {d size : Fin 2 → ℕ} {e : EltTy} (v : View sig κ sp (⟨2, d⟩ : Shape) e)
    (f : v.ty.Contents (Elt F)) {x : (⟨2, d⟩ : Shape).Idx → Elt F e} (hf : v.read (Elt F) f = x) {off : Fin 2 → ℕ} {o : ℕ}
    (inb : ∀ a : Fin 2, off a + size a ≤ d a) (hoff : off = ![o, 0]) (r : (⟨2, size⟩ : Shape).Idx → Elt F e)
    (hr : ∀ (z : (⟨2, size⟩ : Shape).Idx) (y : (⟨2, d⟩ : Shape).Idx), (y (0 : Fin 2)).val = o + (z (0 : Fin 2)).val →
      (y (1 : Fin 2)).val = (z (1 : Fin 2)).val → x y = r z) :
    v.readAt (Elt F) (Rect.unit (s := ⟨2, d⟩) off size inb).toLoadRect f = r := by
  rw [View.readAt_eq_ld, hf]
  subst hoff
  funext z
  refine hr z _ ?_ ?_
  · show o + 1 * (z (0 : Fin 2)).val = _
    rw [Nat.one_mul]
  · show 0 + 1 * (z (1 : Fin 2)).val = _
    rw [Nat.one_mul, Nat.zero_add]

/-! ## The runs -/

section Runs

variable (c : Dev nD) (i : grid0.Coords)
  (arg1 : Memref sig .tc .vmem S512x4096 .f32) (harg1 : arg1.IsWhole)
  (arg2 : Memref sig .tc .vmem S4096x256 .bf16) (harg2 : arg2.IsWhole)
  (arg3 : Memref sig .tc .vmem S256x256 .bf16) (harg3 : arg3.IsWhole)
  (arg4 : Memref sig .tc .vmem S1x256 .f32) (harg4 : arg4.IsWhole)
  (arg5 : Memref sig .tc .vmem S1x1 .f32) (harg5 : arg5.IsWhole)
  (arg6 : Memref sig .tc .vmem S1024x256 .f32) (harg6 : arg6.IsWhole)
  (arg7 : Memref sig .tc .vmem S4096x4096 .bf16) (harg7 : arg7.IsWhole)
  (arg8 : Memref sig .tc .vmem S4096x256 .f32) (harg8 : arg8.IsWhole)
  (arg9 : Memref sig .tc .vmem S4096x256 .bf16) (harg9 : arg9.IsWhole)
  (x0 : Vec F S512x4096 .f32) (x1 : Vec F S4096x256 .bf16) (x2 : Vec F S256x256 .bf16) (x3 : Vec F S1x256 .f32)
  (x4 : Vec F S1x1 .f32) (d5 : Vec F S1024x256 .f32)
  (d7 : Vec F S4096x4096 .bf16) (d8 : Vec F S4096x256 .f32) (d9 : Vec F S4096x256 .bf16)

/-- The six staging buffers the body is called on, at given contents. -/
def staged (x5 : Vec F S1024x256 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4 ∗ owns (c : Thread nD τ) arg6 fullShare x5)

/-- The three scratch arrays at given contents. -/
def scratch (y7 : Vec F S4096x4096 .bf16) (y8 : Vec F S4096x256 .f32) (y9 : Vec F S4096x256 .bf16) : sProp 𝕄 :=
  iprop(owns (c : Thread nD τ) arg7 fullShare y7 ∗ owns (c : Thread nD τ) arg8 fullShare y8
    ∗ owns (c : Thread nD τ) arg9 fullShare y9)

/-- The scratch arrays after a filling point: the adjacency block and the hidden block laid over rows `o` on, the
    product scratch at `p`. -/
def filled (o : ℕ) (p : Vec F S4096x256 .f32) : sProp 𝕄 :=
  iprop(∃ y7 y9, ⌜Put o (k0_pay3 x0) d7 y7 ∧ Put o (k0_pay4 x0 p x3) d9 y9⌝ ∗ scratch c arg7 arg8 arg9 y7 p y9)

set_option maxHeartbeats 1000000 in
/-- THE FIRST POINT computes the product of the sequence and the weights into the second scratch array, and then
    fills the first block of rows of the other two. -/
theorem run_first (h0 : IsFirst i) (h1 : IsFill i) (h2 : ¬IsOut i) (o : ℕ) (e1 : k0_off1 i = ![o, 0])
    (e2 : k0_off2 i = ![o, 0]) (E : Set ℕ) (K : PUnit → sProp 𝕄) :
    iprop(staged c arg1 arg2 arg3 arg4 arg5 arg6 x0 x1 x2 x3 x4 d5 ∗ scratch c arg7 arg8 arg9 d7 d8 d9
        ∗ (iprop(staged c arg1 arg2 arg3 arg4 arg5 arg6 x0 x1 x2 x3 x4 d5
            ∗ filled c arg7 arg8 arg9 x0 x3 d7 d9 o (k0_pay1 x1 x2)) -∗ K ⟨⟩))
      ⊢ wp frame (wpE (defs₀ (F := F)) Variants.none c none) E
          (cc0__fused i arg1 harg1 arg2 harg2 arg3 harg3 arg4 harg4 arg5 harg5 arg6 harg6 arg7 harg7 arg8 harg8 arg9 harg9) K := by
  simp only [cc0__fused_eq_skeleton]; unfold cc0__fused_skel
  unfold filled staged scratch owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩⟩, Hk⟩
  sl_exec (disch := first | sl_exact h0 | sl_exact h1 | sl_exact h2)
  sl_step
  iapply Hk
  have l0 := load_all arg1.view f0 hf0 inb_S512x4096_S512x4096_0_0
  have l1 := load_all arg2.view f1 hf1 inb_S4096x256_S4096x256_0_0
  have l2 := load_all arg3.view f2 hf2 inb_S256x256_S256x256_0_0
  have l3 := load_all arg4.view f3 hf3 inb_S1x256_S1x256_0_0
  sl_unfold_words
  isplitl [H0 H1 H2 H3 H4 H5]
  · isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    iexists f5; isplitr; · ipureintro; exact hf5
    iexact H5
  iexists _, _
  isplitr
  swap
  · isplitl [H7]
    · iexists _; isplitr
      swap; · iexact H7
      ipureintro; rfl
    isplitl [H8]
    · iexists _; isplitr
      swap; · iexact H8
      ipureintro
      rw [l1, l2]
      exact View.read_writes_full arg8.view f8 inb_S4096x256_S4096x256_0_0 (k0_pay1 x1 x2) []
    iexists _; isplitr
    swap; · iexact H9
    ipureintro; rfl
  ipureintro
  rw [l0, l1, l2, l3, View.readCov_full]
  exact ⟨put_of_store arg7.view f7 _ (k0_pay3 x0) e1 d7 hf7,
    put_of_store arg9.view f9 _ (k0_pay4 x0 (k0_pay1 x1 x2) x3) e2 d9 hf9⟩

set_option maxHeartbeats 1000000 in
/-- A LATER FILLING POINT reads the product scratch and fills its block of rows of the other two. -/
theorem run_fill (h0 : ¬IsFirst i) (h1 : IsFill i) (h2 : ¬IsOut i) (o : ℕ) (e1 : k0_off1 i = ![o, 0])
    (e2 : k0_off2 i = ![o, 0]) (E : Set ℕ) (K : PUnit → sProp 𝕄) :
    iprop(staged c arg1 arg2 arg3 arg4 arg5 arg6 x0 x1 x2 x3 x4 d5 ∗ scratch c arg7 arg8 arg9 d7 d8 d9
        ∗ (iprop(staged c arg1 arg2 arg3 arg4 arg5 arg6 x0 x1 x2 x3 x4 d5
            ∗ filled c arg7 arg8 arg9 x0 x3 d7 d9 o d8) -∗ K ⟨⟩))
      ⊢ wp frame (wpE (defs₀ (F := F)) Variants.none c none) E
          (cc0__fused i arg1 harg1 arg2 harg2 arg3 harg3 arg4 harg4 arg5 harg5 arg6 harg6 arg7 harg7 arg8 harg8 arg9 harg9) K := by
  simp only [cc0__fused_eq_skeleton]; unfold cc0__fused_skel
  unfold filled staged scratch owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩⟩, Hk⟩
  sl_exec (disch := first | sl_exact h0 | sl_exact h1 | sl_exact h2)
  sl_step
  iapply Hk
  have l0 := load_all arg1.view f0 hf0 inb_S512x4096_S512x4096_0_0
  have l3 := load_all arg4.view f3 hf3 inb_S1x256_S1x256_0_0
  have l8 := load_all arg8.view f8 hf8 inb_S4096x256_S4096x256_0_0
  isplitl [H0 H1 H2 H3 H4 H5]
  · isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    iexists f5; isplitr; · ipureintro; exact hf5
    iexact H5
  iexists _, _
  isplitr
  swap
  · isplitl [H7]
    · iexists _; isplitr
      swap; · iexact H7
      ipureintro; rfl
    isplitl [H8]
    · iexists _; isplitr
      swap; · iexact H8
      ipureintro
      exact hf8
    iexists _; isplitr
    swap; · iexact H9
    ipureintro; rfl
  ipureintro
  rw [l0, l3, l8]
  exact ⟨put_of_store arg7.view f7 _ (k0_pay3 x0) e1 d7 hf7,
    put_of_store arg9.view f9 _ (k0_pay4 x0 d8 x3) e2 d9 hf9⟩

set_option maxHeartbeats 1000000 in
/-- AN OUTPUT POINT multiplies a block of rows of the first scratch array into the third one and stores the
    activated sum over its output block. -/
theorem run_out (h0 : ¬IsFirst i) (h1 : ¬IsFill i) (h2 : IsOut i) (o : ℕ) (e3 : k0_off3 i = ![o, 0])
    (r7 : Vec F S1024x4096 .bf16)
    (hr : ∀ (x : S1024x4096.Idx) (y : S4096x4096.Idx), (y (0 : Fin 2)).val = o + (x (0 : Fin 2)).val →
      (y (1 : Fin 2)).val = (x (1 : Fin 2)).val → d7 y = r7 x) (E : Set ℕ) (K : PUnit → sProp 𝕄) :
    iprop(staged c arg1 arg2 arg3 arg4 arg5 arg6 x0 x1 x2 x3 x4 d5 ∗ scratch c arg7 arg8 arg9 d7 d8 d9
        ∗ (iprop(staged c arg1 arg2 arg3 arg4 arg5 arg6 x0 x1 x2 x3 x4 (k0_pay5 r7 d9 x3 x4)
            ∗ scratch c arg7 arg8 arg9 d7 d8 d9) -∗ K ⟨⟩))
      ⊢ wp frame (wpE (defs₀ (F := F)) Variants.none c none) E
          (cc0__fused i arg1 harg1 arg2 harg2 arg3 harg3 arg4 harg4 arg5 harg5 arg6 harg6 arg7 harg7 arg8 harg8 arg9 harg9) K := by
  simp only [cc0__fused_eq_skeleton]; unfold cc0__fused_skel
  unfold staged scratch owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩⟩, Hk⟩
  sl_exec (disch := first | sl_exact h0 | sl_exact h1 | sl_exact h2)
  sl_step
  iapply Hk
  have l3 := load_all arg4.view f3 hf3 inb_S1x256_S1x256_0_0
  have l4 := load_all arg5.view f4 hf4 inb_S1x1_S1x1_0_0
  have l9 := load_all arg9.view f9 hf9 inb_S4096x256_S4096x256_0_0
  have l7 := load_rows arg7.view f7 hf7 (k0_off3_inb i h2) e3 r7 hr
  isplitl [H0 H1 H2 H3 H4 H5]
  · isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    iexists _; isplitr
    swap; · iexact H5
    ipureintro
    rw [l3, l4, l7, l9]
    exact View.read_writes_full arg6.view f5 inb_S1024x256_S1024x256_0_0 (k0_pay5 r7 d9 x3 x4) []
  isplitl [H7]
  · iexists f7; isplitr; · ipureintro; exact hf7
    iexact H7
  isplitl [H8]
  · iexists f8; isplitr; · ipureintro; exact hf8
    iexact H8
  iexists f9; isplitr; · ipureintro; exact hf9
  iexact H9

end Runs

end Cert.KernelIdeal.Hand

end
-- ==== Proof.Blocks.lean ====
/- What the pipeline's windows read and write: each input block as entries of the array it is a block of, and each
   output block as the rows of the result it covers. -/
module

public import proofs.«01_k».proof.Proof.Gen.KernelIdeal.Frame
public import proofs.«01_k».proof.Proof.Gen.KernelIdeal.Points
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (c : Dev nD)

/-! ## The arrays the windows are over, as the region finds them -/

/-- The adjacency. -/
def adjV : Vec F S4096x4096 .f32 := V m c main_v2
/-- The sequence, rounded to the kernel's format. -/
def seqV : Vec F S4096x256 .bf16 := V m c main_v1
/-- The weights, rounded to the kernel's format. -/
def wV : Vec F S256x256 .bf16 := V m c main_v5
/-- The bias row. -/
def biasV : Vec F S1x256 .f32 := V m c main_v3
/-- The activation's parameter. -/
def slopeV : Vec F S1x1 .f32 := V m c main_v4

/-! ## Which block each point takes -/

theorem index0 : ∀ t : Fin grid0.N, t.val < 8 → win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, 8 ≤ t.val → win0_5.index t 0 = t.val - 8 ∧ win0_5.index t 1 = 0 := by decide +kernel

/-- The output block is written back at the last four points only. -/
theorem flush5 : ∀ t : Fin cfg0.N, (cfg0.win 5).flush t = true ↔ 8 ≤ t.val :=
  (by decide +kernel : ∀ t : Fin grid0.N, win0_5.flush t = true ↔ 8 ≤ t.val)

/-! ## The input blocks -/

/-- At a filling point the adjacency block is the rows from `512 t` on. -/
theorem adj_block (t : Fin cfg0.N) (ht : t.val < 8) (x : S512x4096.Idx) (y : S4096x4096.Idx)
    (h0 : (y 0).val = 512 * t.val + (x 0).val) (h1 : (y 1).val = (x 1).val) :
    (iblk m c 0 t : Vec F S512x4096 .f32) x = adjV m c y := by
  have hi := index0 t ht
  unfold iblk
  rw [View.read_apply]
  show V m c main_v2 _ = V m c main_v2 y
  congr 1
  funext a
  apply Fin.ext
  match a with
  | ⟨0, _⟩ => show win0_0.index t 0 * 512 + 1 * (x 0).val = (y 0).val; rw [hi.1]; omega
  | ⟨1, _⟩ => show win0_0.index t 1 * 4096 + 1 * (x 1).val = (y 1).val; rw [hi.2]; omega

/-- The sequence block is the whole sequence at every point, -/
theorem seq_block (t : Fin cfg0.N) : (iblk m c 1 t : Vec F S4096x256 .bf16) = seqV m c := by
  have hi := index1 t
  funext x
  unfold iblk
  rw [View.read_apply]
  show V m c main_v1 _ = V m c main_v1 x
  congr 1
  funext a
  apply Fin.ext
  match a with
  | ⟨0, _⟩ => show win0_1.index t 0 * 4096 + 1 * (x 0).val = (x 0).val; rw [hi.1]; omega
  | ⟨1, _⟩ => show win0_1.index t 1 * 256 + 1 * (x 1).val = (x 1).val; rw [hi.2]; omega

/-- the weight block the whole weights, -/
theorem w_block (t : Fin cfg0.N) : (iblk m c 2 t : Vec F S256x256 .bf16) = wV m c := by
  have hi := index2 t
  funext x
  unfold iblk
  rw [View.read_apply]
  show V m c main_v5 _ = V m c main_v5 x
  congr 1
  funext a
  apply Fin.ext
  match a with
  | ⟨0, _⟩ => show win0_2.index t 0 * 256 + 1 * (x 0).val = (x 0).val; rw [hi.1]; omega
  | ⟨1, _⟩ => show win0_2.index t 1 * 256 + 1 * (x 1).val = (x 1).val; rw [hi.2]; omega

/-- the bias block the whole bias, -/
theorem bias_block (t : Fin cfg0.N) : (iblk m c 3 t : Vec F S1x256 .f32) = biasV m c := by
  have hi := index3 t
  funext x
  unfold iblk
  rw [View.read_apply]
  show V m c main_v3 _ = V m c main_v3 x
  congr 1
  funext a
  apply Fin.ext
  match a with
  | ⟨0, _⟩ => show win0_3.index t 0 * 1 + 1 * (x 0).val = (x 0).val; rw [hi.1]; omega
  | ⟨1, _⟩ => show win0_3.index t 1 * 256 + 1 * (x 1).val = (x 1).val; rw [hi.2]; omega

/-- and the parameter's block the parameter. -/
theorem slope_block (t : Fin cfg0.N) : (iblk m c 4 t : Vec F S1x1 .f32) = slopeV m c := by
  have hi := index4 t
  funext x
  unfold iblk
  rw [View.read_apply]
  show V m c main_v4 _ = V m c main_v4 x
  congr 1
  funext a
  apply Fin.ext
  match a with
  | ⟨0, _⟩ => show win0_4.index t 0 * 1 + 1 * (x 0).val = (x 0).val; rw [hi.1]; omega
  | ⟨1, _⟩ => show win0_4.index t 1 * 1 + 1 * (x 1).val = (x 1).val; rw [hi.2]; omega

/-! ## The output blocks -/

/-- The rows an output point's block covers, read off any contents of the result array. -/
theorem out_block (t : Fin cfg0.N) (ht : 8 ≤ t.val) (G : Vec F S4096x256 .f32) (B : Vec F S1024x256 .f32)
    (h : ∀ (x : S1024x256.Idx) (y : S4096x256.Idx), (y 0).val = 1024 * (t.val - 8) + (x 0).val → (y 1).val = (x 1).val →
      B x = G y) : B = ((cfg0.win 5).blk t).view.read (Elt F) G := by
  have hi := index5 t ht
  funext x
  rw [View.read_apply]
  refine h x _ ?_ ?_
  · show win0_5.index t 0 * 1024 + 1 * (x 0).val = _; rw [hi.1]; omega
  · show win0_5.index t 1 * 256 + 1 * (x 1).val = _; rw [hi.2]; omega

/-- Which entries of the result an output point's block covers. -/
theorem mem_out_block (t : Fin cfg0.N) (ht : 8 ≤ t.val) (y : S4096x256.Idx) :
    y ∈ ((cfg0.win 5).blk t).view.set ↔ 1024 * (t.val - 8) ≤ (y 0).val ∧ (y 0).val < 1024 * (t.val - 8) + 1024 := by
  have hi := index5 t ht
  have h1 : (y 1).val < 256 := (y 1).isLt
  rw [View.set_slice_whole, Rect.mem_set_unit]
  constructor
  · intro h
    have h : win0_5.index t 0 * 1024 ≤ (y 0).val ∧ (y 0).val < win0_5.index t 0 * 1024 + 1024 := h 0
    rw [hi.1] at h
    omega
  · intro h a
    match a with
    | ⟨0, _⟩ => show win0_5.index t 0 * 1024 ≤ (y 0).val ∧ (y 0).val < win0_5.index t 0 * 1024 + 1024; rw [hi.1]; omega
    | ⟨1, _⟩ => show win0_5.index t 1 * 256 ≤ (y 1).val ∧ (y 1).val < win0_5.index t 1 * 256 + 256; rw [hi.2]; omega

/-- The four output blocks cover the result. -/
theorem out_cover (y : S4096x256.Idx) :
    ∃ t : Fin cfg0.N, (cfg0.win 5).flush t = true ∧ y ∈ ((cfg0.win 5).blk t).view.set := by
  have h0 : (y 0).val < 4096 := (y 0).isLt
  have hN : cfg0.N = 12 := N_0
  have ht : 8 + (y 0).val / 1024 < cfg0.N := by omega
  have h8 : 8 ≤ (⟨8 + (y 0).val / 1024, ht⟩ : Fin cfg0.N).val := Nat.le_add_right _ _
  refine ⟨⟨8 + (y 0).val / 1024, ht⟩, (flush5 _).mpr h8, (mem_out_block _ h8 y).mpr ?_⟩
  dsimp only
  omega

end Cert.KernelIdeal.Hand

end
-- ==== Proof.Bands.lean ====
/- Bands of whole rows of a matrix of 4096 rows: taking one, and putting a matrix together from all of them. -/
module

public import Idealize.ShloMosaic.Lib.ValueIdxCore

@[expose] public section

namespace Cert.Rows

open Idealize.ShloMosaic Idealize.ShloMosaic.ValueIdx

variable {α : Type} {q : ℕ}

/-- The `b`-th band of `n` rows. (The remainder only keeps the row below 4096; no band in use reaches past it.) -/
def band (n b : ℕ) (G : (⟨2, ![4096, q]⟩ : Shape).Idx → α) : (⟨2, ![n, q]⟩ : Shape).Idx → α := fun x =>
  G (ix2 ⟨(n * b + (x 0).val) % 4096, Nat.mod_lt _ (by decide)⟩ (x 1))

/-- The matrix whose `b`-th band of `n` rows is `B b`. -/
def stack (n : ℕ) (hn : 0 < n) (B : ℕ → (⟨2, ![n, q]⟩ : Shape).Idx → α) : (⟨2, ![4096, q]⟩ : Shape).Idx → α := fun y =>
  B ((y 0).val / n) (ix2 ⟨(y 0).val % n, Nat.mod_lt _ hn⟩ (y 1))

/-- An entry of a band is the matrix's entry in that row. -/
theorem band_apply {n b : ℕ} (G : (⟨2, ![4096, q]⟩ : Shape).Idx → α) (x : (⟨2, ![n, q]⟩ : Shape).Idx)
    (y : (⟨2, ![4096, q]⟩ : Shape).Idx) (h0 : (y 0).val = n * b + (x 0).val) (h1 : (y 1).val = (x 1).val) :
    band n b G x = G y := by
  have hy : (y 0).val < 4096 := (y 0).isLt
  unfold band
  refine congrArg G (funext fun a => Fin.ext ?_)
  match a with
  | ⟨0, _⟩ => show (n * b + (x 0).val) % 4096 = (y 0).val; rw [← h0, Nat.mod_eq_of_lt hy]
  | ⟨1, _⟩ => exact h1.symm

/-- An entry of the stacked matrix is the entry of the band that its row is in. -/
theorem stack_apply {n b : ℕ} (hn : 0 < n) (B : ℕ → (⟨2, ![n, q]⟩ : Shape).Idx → α) (x : (⟨2, ![n, q]⟩ : Shape).Idx)
    (y : (⟨2, ![4096, q]⟩ : Shape).Idx) (h0 : (y 0).val = n * b + (x 0).val) (h1 : (y 1).val = (x 1).val) :
    stack n hn B y = B b x := by
  have hx : (x 0).val < n := (x 0).isLt
  unfold stack
  rw [show (y 0).val / n = b by rw [h0, Nat.mul_add_div hn, Nat.div_eq_of_lt hx, Nat.add_zero]]
  refine congrArg (B b) (funext fun a => Fin.ext ?_)
  match a with
  | ⟨0, _⟩ => show (y 0).val % n = (x 0).val; rw [h0, Nat.mul_add_mod, Nat.mod_eq_of_lt hx]
  | ⟨1, _⟩ => exact h1

/-- To know the stacked matrix at `y` it is enough to know the band of `y`'s row there. -/
theorem stack_eq {n : ℕ} (hn : 0 < n) (B : ℕ → (⟨2, ![n, q]⟩ : Shape).Idx → α) (y : (⟨2, ![4096, q]⟩ : Shape).Idx) {v : α}
    (h : ∀ (b : ℕ) (x : (⟨2, ![n, q]⟩ : Shape).Idx), (y 0).val = n * b + (x 0).val → (y 1).val = (x 1).val → B b x = v) :
    stack n hn B y = v :=
  h _ _ (Nat.div_add_mod (y 0).val n).symm rfl

end Cert.Rows
-- ==== Proof.Run.lean ====
/- The pipeline's run, whatever the floats are: the array it leaves, as the stored blocks put together. The loop
   invariant is that the adjacency and hidden scratch arrays hold their final contents in the rows filled so far and
   that the third scratch array holds the projected sequence; at an output point every row is filled, so the block
   written is the result's. -/
module

public import proofs.«01_k».proof.Proof.Gen.KernelIdeal.Launch
public import proofs.«01_k».proof.Proof.Gen.KernelIdeal.Frame
public import proofs.«01_k».proof.Proof.Gen.KernelIdeal.Points
public import proofs.«01_k».proof.Proof.Body
public import proofs.«01_k».proof.Proof.Blocks
public import proofs.«01_k».proof.Proof.Bands
public import Idealize.ShloMosaic.Lib.Pipeline.Frame
public import Idealize.ShloMosaic.Lib.Pipeline.FrameBody
public import Idealize.ShloMosaic.Lib.Pipeline.Value

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic Idealize.ShloMosaic.ValueIdx
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## What the scratch arrays and the result end holding -/

/-- The adjacency, in the kernel's format: what the filling points store, band by band. -/
def adjM (c : Dev nD) : Vec F S4096x4096 .bf16 := stack 512 (by decide) fun b => k0_pay3 (band 512 b (adjV m c))
/-- The projected sequence: what the first point stores. -/
def projM (c : Dev nD) : Vec F S4096x256 .f32 := k0_pay1 (seqV m c) (wV m c)
/-- The hidden features, in the kernel's format: what the filling points store, band by band. -/
def hidM (c : Dev nD) : Vec F S4096x256 .bf16 :=
  stack 512 (by decide) fun b => k0_pay4 (band 512 b (adjV m c)) (projM m c) (biasV m c)
/-- The result: what the output points store, band by band. -/
def outM (c : Dev nD) : Vec F S4096x256 .f32 :=
  stack 1024 (by decide) fun b => k0_pay5 (band 1024 b (adjM m c)) (hidM m c) (biasV m c) (slopeV m c)

/-- The product of the first point is the projected sequence. -/
theorem proj_point (c : Dev nD) (t : Fin cfg0.N) : k0_pay1 (iblk m c 1 t) (iblk m c 2 t) = projM m c :=
  congrArg₂ k0_pay1 (seq_block m c t) (w_block m c t)

/-- The adjacency block of a filling point is a band of the adjacency. -/
theorem adj_band (c : Dev nD) (t : Fin cfg0.N) (ht : t.val < 8) :
    (iblk m c 0 t : Vec F S512x4096 .f32) = band 512 t.val (adjV m c) := by
  funext x
  have hx : (x 0).val < 512 := (x 0).isLt
  exact adj_block m c t ht x _ (Nat.mod_eq_of_lt (by omega)) rfl

/-- The adjacency block a filling point stores is the adjacency's. -/
theorem adj_point (c : Dev nD) (t : Fin cfg0.N) (ht : t.val < 8) (x : S512x4096.Idx) (y : S4096x4096.Idx)
    (h0 : (y 0).val = 512 * t.val + (x 0).val) (h1 : (y 1).val = (x 1).val) : k0_pay3 (iblk m c 0 t) x = adjM m c y := by
  rw [adj_band m c t ht]
  exact (stack_apply _ (fun b => k0_pay3 (band 512 b (adjV m c))) x y h0 h1).symm

/-- The hidden block a filling point stores is the hidden features'. -/
theorem hid_point (c : Dev nD) (t : Fin cfg0.N) (ht : t.val < 8) (x : S512x256.Idx) (y : S4096x256.Idx)
    (h0 : (y 0).val = 512 * t.val + (x 0).val) (h1 : (y 1).val = (x 1).val) :
    k0_pay4 (iblk m c 0 t) (projM m c) (iblk m c 3 t) x = hidM m c y := by
  rw [adj_band m c t ht, bias_block]
  exact (stack_apply _ (fun b => k0_pay4 (band 512 b (adjV m c)) (projM m c) (biasV m c)) x y h0 h1).symm

/-- The block of the result an output point writes back. -/
def outB (c : Dev nD) (t : Fin cfg0.N) : Vec F S1024x256 .f32 := ((cfg0.win 5).blk t).view.read (Elt F) (outM m c)

/-- What an output point stores is its block of the result. -/
theorem out_point (c : Dev nD) (t : Fin cfg0.N) (ht : 8 ≤ t.val) :
    k0_pay5 (band 1024 (t.val - 8) (adjM m c)) (hidM m c) (iblk m c 3 t) (iblk m c 4 t) = outB m c t :=
  out_block t ht (outM m c) _ fun x y h0 h1 => by
    rw [bias_block, slope_block]
    exact (stack_apply _ (fun b => k0_pay5 (band 1024 b (adjM m c)) (hidM m c) (biasV m c) (slopeV m c)) x y h0 h1).symm

/-! ## The proof data -/

/-- The scratch arrays. -/
abbrev scM0_0 : Memref sig .tc .vmem S4096x4096 .bf16 := Memref.whole cc0_scratch0
abbrev scM0_1 : Memref sig .tc .vmem S4096x256 .f32 := Memref.whole cc0_scratch1
abbrev scM0_2 : Memref sig .tc .vmem S4096x256 .bf16 := Memref.whole cc0_scratch2

/-- Before any point the scratch arrays hold anything. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)
        ∗ (∃ d, owns (c : Thread nD τ) scM0_2 fullShare d)) ∗ (∃ r, prngReg c r)) := by
  unfold Pipeline.ΦA; rw [scopedRest0_eq]; simp only [scM0_0, scM0_1, scM0_2, owns_whole]; try rfl

/-- After `n` points, at least one, the first `512 n` rows (at most all) of the two filled scratch arrays are known. -/
def Tracked (c : Dev nD) (n : ℕ) : sProp 𝕄 :=
  iprop(iprop(∃ d7 d9, ⌜Known (512 * min n 8) (adjM m c) d7 ∧ Known (512 * min n 8) (hidM m c) d9⌝
    ∗ scratch c scM0_0 scM0_1 scM0_2 d7 (projM m c) d9) ∗ (∃ r, prngReg c r))

/-- The loop invariant. -/
def PhiS (c : Dev nD) : (n : ℕ) → n ≤ cfg0.N → sProp 𝕄
  | 0, _ => Pipeline.ΦA spec0 c
  | n + 1, _ => Tracked m c (n + 1)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = Tracked m c n := by
  match n, hz with
  | n + 1, _ => rfl

/-- The pipeline's proof data: the arrays as the region finds them; every input block as it was, and an output point's
    block the result's. -/
def dats (_ : Fin 1) (c : Dev nD) : Dat τ (Elt F) Unit ℕ (UR sig nD τ) ℕ cfg0 c where
  A w := V m c (Pipeline.arrRef spec0 w)
  after w t :=
    match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
    | ⟨_ + 6, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem PhiS_castSucc (c : Dev nD) (t : Fin cfg0.N) :
    (dats m 0 c).Φ t.castSucc = PhiS m c t.val (Nat.le_of_lt t.isLt) := by
  dsimp only [dats]
  exact Pipeline.Dat.Φ_castSucc (PhiS m c) t
theorem PhiS_succ (c : Dev nD) (t : Fin cfg0.N) : (dats m 0 c).Φ t.succ = Tracked m c (t.val + 1) := rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- A filling point leaves the output block alone, -/
theorem idle5 : ∀ t : Fin cfg0.N, t.val < 8 → cfg0.idle 5 (cfg0.grid.coords t) = true :=
  (by decide +kernel : ∀ t : Fin grid0.N, t.val < 8 → (!(k0_cond3 (grid0.coords t) == 1#1)) = true)
/-- an output point does not. -/
theorem live5 : ∀ t : Fin cfg0.N, 8 ≤ t.val → cfg0.idle 5 (cfg0.grid.coords t) = false :=
  (by decide +kernel : ∀ t : Fin grid0.N, 8 ≤ t.val → (!(k0_cond3 (grid0.coords t) == 1#1)) = false)

/-- After a filling point one more block of rows is known. -/
theorem known_step (c : Dev nD) (t : Fin cfg0.N) (ht : t.val < 8) {d7 y7 : Vec F S4096x4096 .bf16}
    {d9 y9 : Vec F S4096x256 .bf16} (h7 : Known (512 * t.val) (adjM m c) d7) (h9 : Known (512 * t.val) (hidM m c) d9)
    (p7 : Put (512 * t.val) (k0_pay3 (iblk m c 0 t)) d7 y7)
    (p9 : Put (512 * t.val) (k0_pay4 (iblk m c 0 t) (projM m c) (iblk m c 3 t)) d9 y9) :
    Known (512 * min (t.val + 1) 8) (adjM m c) y7 ∧ Known (512 * min (t.val + 1) 8) (hidM m c) y9 := by
  have e : 512 * min (t.val + 1) 8 = 512 * t.val + 512 := by omega
  rw [e]
  exact ⟨Known.step h7 p7 rfl (adj_point m c t ht), Known.step h9 p9 rfl (hid_point m c t ht)⟩

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after0_0]
theorem leaves1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after0_1]
theorem leaves2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after0_2]
theorem leaves3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after0_3]
theorem leaves4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after0_4]
/-- At an output point the output block is the result's. -/
theorem leaves5_out (c : Dev nD) (t : Fin cfg0.N) (ht : 8 ≤ t.val) :
    (dats m 0 c).leavesExact 5 t = owns (c : Thread nD τ) (st0_5 t) fullShare (outB m c t) := by
  unfold Dat.leavesExact; rw [live5 t ht, after0_5]
/-- At a filling point the output block is as it was found. -/
theorem leaves5_fill (c : Dev nD) (t : Fin cfg0.N) (ht : t.val < 8) :
    (dats m 0 c).leavesExact 5 t
      = iprop(∃ d, owns (c : Thread nD τ) (st0_5 t) fullShare ((dats m 0 c).before 5 t d)) :=
  (dats m 0 c).leavesExact_idle 5 t (idle5 t ht)
    (Bool.eq_false_iff.mpr fun h => absurd ((flush5 t).mp h) (Nat.not_le.mpr ht))

/-- The staging buffers at point `t` with the output's at `x5`. -/
abbrev stagedAt (c : Dev nD) (t : Fin cfg0.N) (x5 : Vec F S1024x256 .f32) : sProp 𝕄 :=
  staged c (st0_0 t) (st0_1 t) (st0_2 t) (st0_3 t) (st0_4 t) (st0_5 t) (iblk m c 0 t) (iblk m c 1 t) (iblk m c 2 t)
    (iblk m c 3 t) (iblk m c 4 t) x5

/-- The first point. -/
theorem body_first (c : Dev nD) (t : Fin cfg0.N) (hz : t.val = 0) (d5 : Vec F S1024x256 .f32) (K : PUnit → sProp 𝕄) :
    iprop(Pipeline.ΦA spec0 c ∗ stagedAt m c t d5 ∗ (iprop(Tracked m c (t.val + 1) ∗ stagedAt m c t d5) -∗ K ⟨⟩))
      ⊢ wp frame (wpE (defs₀ (F := F)) Variants.none c none) Set.univ (bodyAt0 t) K := by
  have ht : t.val < 8 := by omega
  rw [PhiA0_eq]
  iintro ⟨⟨⟨⟨%d7, H7⟩, ⟨%d8, H8⟩, ⟨%d9, H9⟩⟩, Hg⟩, Hs, Hk⟩
  iapply (run_first c (grid0.coords t) _ _ _ _ _ _ _ _ _ _ _ _ _ _ _ _ _ _ (iblk m c 0 t) (iblk m c 1 t) (iblk m c 2 t)
    (iblk m c 3 t) (iblk m c 4 t) d5 d7 d8 d9 ((isFirst_iff t).mpr hz) ((isFill_iff t).mpr ht)
    (fun h => absurd ((isOut_iff t).mp h) (Nat.not_le.mpr ht)) (512 * t.val) (off1_eq t) (off2_eq t) Set.univ _)
  isplitl [Hs]; · iexact Hs
  isplitl [H7 H8 H9]
  · unfold scratch
    isplitl [H7]; · iexact H7
    isplitl [H8]; · iexact H8
    iexact H9
  rw [proj_point]
  unfold filled
  iintro ⟨Hs, ⟨%y7, %y9, %hp, Hc⟩⟩
  iapply Hk
  isplitr [Hs]
  swap; · iexact Hs
  unfold Tracked
  isplitr [Hg]
  swap; · iexact Hg
  iexists y7, y9
  isplitr
  · ipureintro
    exact known_step m c t ht (by rw [hz]; exact Known.start _ _) (by rw [hz]; exact Known.start _ _) hp.1 hp.2
  iexact Hc

/-- A later filling point. -/
theorem body_fill (c : Dev nD) (t : Fin cfg0.N) (hz : t.val ≠ 0) (ht : t.val < 8) (d5 : Vec F S1024x256 .f32)
    (K : PUnit → sProp 𝕄) :
    iprop(Tracked m c t.val ∗ stagedAt m c t d5 ∗ (iprop(Tracked m c (t.val + 1) ∗ stagedAt m c t d5) -∗ K ⟨⟩))
      ⊢ wp frame (wpE (defs₀ (F := F)) Variants.none c none) Set.univ (bodyAt0 t) K := by
  have e : 512 * min t.val 8 = 512 * t.val := by omega
  unfold Tracked
  iintro ⟨⟨⟨%d7, %d9, %hk, Hc⟩, Hg⟩, Hs, Hk⟩
  rw [e] at hk
  iapply (run_fill c (grid0.coords t) _ _ _ _ _ _ _ _ _ _ _ _ _ _ _ _ _ _ (iblk m c 0 t) (iblk m c 1 t) (iblk m c 2 t)
    (iblk m c 3 t) (iblk m c 4 t) d5 d7 (projM m c) d9 (fun h => hz ((isFirst_iff t).mp h)) ((isFill_iff t).mpr ht)
    (fun h => absurd ((isOut_iff t).mp h) (Nat.not_le.mpr ht)) (512 * t.val) (off1_eq t) (off2_eq t) Set.univ _)
  isplitl [Hs]; · iexact Hs
  isplitl [Hc]; · iexact Hc
  unfold filled
  iintro ⟨Hs, ⟨%y7, %y9, %hp, Hc⟩⟩
  iapply Hk
  isplitr [Hs]
  swap; · iexact Hs
  isplitr [Hg]
  swap; · iexact Hg
  iexists y7, y9
  isplitr
  · ipureintro
    exact known_step m c t ht hk.1 hk.2 hp.1 hp.2
  iexact Hc

/-- An output point. -/
theorem body_out (c : Dev nD) (t : Fin cfg0.N) (ht : 8 ≤ t.val) (d5 : Vec F S1024x256 .f32) (K : PUnit → sProp 𝕄) :
    iprop(Tracked m c t.val ∗ stagedAt m c t d5 ∗ (iprop(Tracked m c (t.val + 1) ∗ stagedAt m c t (outB m c t)) -∗ K ⟨⟩))
      ⊢ wp frame (wpE (defs₀ (F := F)) Variants.none c none) Set.univ (bodyAt0 t) K := by
  have e : 512 * min t.val 8 = 4096 := by omega
  have e' : 512 * min (t.val + 1) 8 = 4096 := by omega
  unfold Tracked
  iintro ⟨⟨⟨%d7, %d9, %hk, Hc⟩, Hg⟩, Hs, Hk⟩
  rw [e] at hk
  obtain rfl : d7 = adjM m c := hk.1.all (Nat.le_refl 4096)
  obtain rfl : d9 = hidM m c := hk.2.all (Nat.le_refl 4096)
  iapply (run_out c (grid0.coords t) _ _ _ _ _ _ _ _ _ _ _ _ _ _ _ _ _ _ (iblk m c 0 t) (iblk m c 1 t) (iblk m c 2 t)
    (iblk m c 3 t) (iblk m c 4 t) d5 (adjM m c) (projM m c) (hidM m c) (fun h => absurd ((isFirst_iff t).mp h) (by omega))
    (fun h => absurd ((isFill_iff t).mp h) (Nat.not_lt.mpr ht)) ((isOut_iff t).mpr ht) (1024 * (t.val - 8)) (off3_eq t ht)
    (band 1024 (t.val - 8) (adjM m c)) (fun x y h0 h1 => (band_apply _ x y h0 h1).symm) Set.univ _)
  isplitl [Hs]; · iexact Hs
  isplitl [Hc]; · iexact Hc
  rw [out_point m c t ht]
  iintro ⟨Hs, Hc⟩
  iapply Hk
  isplitr [Hs]
  swap; · iexact Hs
  isplitr [Hg]
  swap; · iexact Hg
  iexists adjM m c, hidM m c
  isplitr
  · ipureintro
    rw [e']
    exact hk
  iexact Hc

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).owesAt () t.succ = (dats m 0 c).owesAt () t.castSucc from rfl, PhiS_castSucc, PhiS_succ,
    leaves0, leaves1, leaves2, leaves3, leaves4]
  by_cases ht : t.val < 8
  · rw [leaves5_fill m c t ht]
    by_cases hz : t.val = 0
    · rw [PhiS_zero m c _ _ hz]
      iintro ⟨HΦ, Ho, ⟨%d0, H0⟩, ⟨%d1, H1⟩, ⟨%d2, H2⟩, ⟨%d3, H3⟩, ⟨%d4, H4⟩, ⟨%d5, H5⟩⟩
      iapply (body_first m c t hz ((dats m 0 c).before 5 t d5) _)
      isplitl [HΦ]; · iexact HΦ
      unfold stagedAt staged
      isplitl [H0 H1 H2 H3 H4 H5]
      · isplitl [H0]; · iexact H0
        isplitl [H1]; · iexact H1
        isplitl [H2]; · iexact H2
        isplitl [H3]; · iexact H3
        isplitl [H4]; · iexact H4
        iexact H5
      iintro ⟨HΦ, H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS_pos m c _ _ hz]
      iintro ⟨HΦ, Ho, ⟨%d0, H0⟩, ⟨%d1, H1⟩, ⟨%d2, H2⟩, ⟨%d3, H3⟩, ⟨%d4, H4⟩, ⟨%d5, H5⟩⟩
      iapply (body_fill m c t hz ht ((dats m 0 c).before 5 t d5) _)
      isplitl [HΦ]; · iexact HΦ
      unfold stagedAt staged
      isplitl [H0 H1 H2 H3 H4 H5]
      · isplitl [H0]; · iexact H0
        isplitl [H1]; · iexact H1
        isplitl [H2]; · iexact H2
        isplitl [H3]; · iexact H3
        isplitl [H4]; · iexact H4
        iexact H5
      iintro ⟨HΦ, H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexists d5; iexact H5
  · have h8 : 8 ≤ t.val := Nat.not_lt.mp ht
    rw [leaves5_out m c t h8, PhiS_pos m c _ _ (by omega)]
    iintro ⟨HΦ, Ho, ⟨%d0, H0⟩, ⟨%d1, H1⟩, ⟨%d2, H2⟩, ⟨%d3, H3⟩, ⟨%d4, H4⟩, ⟨%d5, H5⟩⟩
    iapply (body_out m c t h8 ((dats m 0 c).before 5 t d5) _)
    isplitl [HΦ]; · iexact HΦ
    unfold stagedAt staged
    isplitl [H0 H1 H2 H3 H4 H5]
    · isplitl [H0]; · iexact H0
      isplitl [H1]; · iexact H1
      isplitl [H2]; · iexact H2
      isplitl [H3]; · iexact H3
      isplitl [H4]; · iexact H4
      iexact H5
    iintro ⟨HΦ, H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and the invariant after the last point gives the scratch arrays back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 12 := N_0; omega), PhiA0_eq]
  unfold Tracked scratch
  iintro ⟨⟨%d7, %d9, %hk, H7, H8, H9⟩, Hg⟩
  isplitl [H7 H8 H9]
  · isplitl [H7]; · iexists _; iexact H7
    isplitl [H8]; · iexists _; iexact H8
    iexists _; iexact H9
  iexact Hg

/-! ## The run -/

set_option backward.isDefEq.respectTransparency.types false in
/-- Every run ends with the windows' arrays at what the proof data says, the rest of memory as the region found it, and
    every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result array ends holding the result. -/
theorem final_out (c : Dev nD) : (dats m 0 c).arrAt 5 cfg0.N = outM m c :=
  (dats m 0 c).arrAt_eq_of_cover 5 (outM m c) (fun t _ => by
    show (cfg0.win 5).cut (grid0.coords t) ((dats m 0 c).after 5 t) = _
    rw [after0_5]
    rfl) out_cover

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main_quiescent m ρ))

/-- Every semaphore counter ends at zero. -/
theorem quiet : θ_run defs (onTc (τ := τ) (main (F := F))) ⟨m, fun _ => 0, ρ⟩ (fun r => r.2.sem = fun _ => 0) :=
  (θ_run defs _ _).mono (fun _ h => h.2) (run_main_quiescent m ρ)

/-- The result array ends holding the result on every device. -/
theorem computes : θ_run defs (onTc (τ := τ) (main (F := F))) ⟨m, fun _ => 0, ρ⟩ (fun r => ∀ c : Dev nD,
      r.2.mem ((c.tc : Thread nD τ).loc main_v6) = outM m c) :=
  (θ_run defs _ _).mono (fun _ h c => ((h.1 c).1 5).trans (final_out m c)) (run_main_quiescent m ρ)

end Cert.KernelIdeal.Hand

end
-- ==== Proof.Same.lean ====
/- The kernel and the kernel read over the extended reals are one program, for any floats: nothing is rewritten
   between them. So the run proved of the one for every kind of float is also the other's, with rounding floats. -/
module

public import proofs.«01_k».proof.Defs
public import proofs.«01_k».proof.Proof.Gen.Kernel
public import proofs.«01_k».proof.Proof.Run
public import Idealize.ShloMosaic.Lib.Claim

@[expose] public section

noncomputable section

namespace Cert.Kernel.Hand

open Idealize.ShloMosaic Idealize.ShloMosaic.TcCoe Idealize.SL.Sem

/-- The two programs' body tables are one. -/
theorem bodies_same : (Cert.Kernel.defs₀ (F := Bits) : Defs Cert.KernelIdeal.nD Cert.KernelIdeal.τ Cert.KernelIdeal.sig (Elt Bits) Cert.KernelIdeal.Λ₀)
    = Cert.KernelIdeal.defs₀ := by
  unfold Cert.Kernel.defs₀ Cert.KernelIdeal.defs₀
  refine congrArg Defs.onTc (funext fun l => funext fun a => ?_)
  match l, a with
  | 0, (t, s) => rfl

/-- The tables with the pipeline's own labels are one. -/
theorem tables_same : (Cert.Kernel.defs (F := Bits) : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm))
    = Cert.KernelIdeal.defs :=
  congrArg (Pipeline.defs (Cert.KernelIdeal.pcfgs (F := Bits))) bodies_same

/-- The kernel with rounding floats ends, changes no argument, and leaves every counter at zero. -/
theorem quiescent (hk : Cert.Kernel.Facts) : Cert.quiescent_Kernel (hKernel := hk) := fun m ρ _ => by
  have h := θ_run_and (Cert.KernelIdeal.Hand.unchanged (F := Bits) m ρ) (Cert.KernelIdeal.Hand.quiet (F := Bits) m ρ)
  rw [← tables_same] at h
  exact h

end Cert.Kernel.Hand

end
-- ==== Proof.Layer.lean ====
/- The graph convolution as mathematics: two rounds of "adjacency times features plus bias" over a projected
   sequence, and the parametric activation. Everything is over the extended reals, entry by entry. -/
module

public import Idealize.ShloMosaic.PureOps.Ideal
public import Idealize.ShloMosaic.Lib.ValueIdxCore

@[expose] public section

noncomputable section

namespace Cert.Gcn

open Idealize.ShloMosaic Idealize.ShloMosaic.ValueIdx
open scoped BigOperators

/-- A matrix with `r` rows and `c` columns of extended reals. -/
abbrev Mat (r c : ℕ) : Type := (⟨2, ![r, c]⟩ : Shape).Idx → EReal

/-- The entry in row `i` of the projected sequence `x wᵀ`. -/
def project (x : Mat 4096 256) (w : Mat 256 256) : Mat 4096 256 := fun y =>
  ∑ k : Fin 256, x (ix2 (y 0) k) * w (ix2 (y 1) k)

/-- One round: the features averaged along the adjacency's rows, plus the bias of the column. -/
def round {r : ℕ} (a : Mat r 4096) (s : Mat 4096 256) (b : Mat 1 256) : Mat r 256 := fun y =>
  (∑ k : Fin 4096, a (ix2 (y 0) k) * s (ix2 k (y 1))) + b (ix2 0 (y 1))

/-- The activation: a positive number as it is, any other scaled by the parameter `p`. -/
def act (p z : EReal) : EReal :=
  Scalar.select (FloatOps.cmpf (F := Ideal) (φ := .f32) .ogt z (Ideal.ofBits .f32 0x00000000#32)) z (p * z)

/-- The hidden features after the first round. -/
def hidden (x : Mat 4096 256) (a : Mat 4096 4096) (w : Mat 256 256) (b : Mat 1 256) : Mat 4096 256 :=
  round a (project x w) b

/-- The whole computation. -/
def gcn (x : Mat 4096 256) (a : Mat 4096 4096) (w : Mat 256 256) (b : Mat 1 256) (p : Mat 1 1) : Mat 4096 256 := fun y =>
  act (p (ix2 0 0)) (round a (hidden x a w b) b y)

/-- A round reads only the row it is asked for: two adjacency blocks that agree on a row give the same entry there. -/
theorem round_row {r r' : ℕ} (a : Mat r 4096) (a' : Mat r' 4096) (s : Mat 4096 256) (b : Mat 1 256)
    (y : (⟨2, ![r, 256]⟩ : Shape).Idx) (z : (⟨2, ![r', 256]⟩ : Shape).Idx) (hc : (y 1).val = (z 1).val)
    (h : ∀ k : Fin 4096, a (ix2 (y 0) k) = a' (ix2 (z 0) k)) : round a s b y = round a' s b z := by
  have e : (y 1 : Fin 256) = z 1 := Fin.ext hc
  unfold round
  rw [e]
  exact congrArg (· + _) (Finset.sum_congr rfl fun k _ => by rw [h k])

end Cert.Gcn

end
-- ==== Proof.Payloads.lean ====
/- The four values the kernel's body computes, read at an index over the extended reals: each is the corresponding
   piece of the mathematics, the format changes being the identity there. -/
module

public import proofs.«01_k».proof.Proof.Gen.KernelIdeal.Skeleton
public import proofs.«01_k».proof.Proof.Layer
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.KernelIdeal.Hand

open Cert.KernelIdeal Cert.KernelIdeal.Gen Cert.Gcn
open Idealize.ShloMosaic Idealize.ShloMosaic.ValueIdx
open scoped BigOperators

/-- The bias row, broadcast down the rows, read at an index. -/
theorem bias_rows {r : ℕ} (b : Mat 1 256) (h : S1x256.Broadcasts ⟨2, ![r, 256]⟩) (y : (⟨2, ![r, 256]⟩ : Shape).Idx) :
    broadcastTo ⟨2, ![r, 256]⟩ b h y = b (ix2 0 (y 1)) :=
  broadcastTo_apply b h y (ix2 0 (y 1)) (fun a => by
    match a with
    | ⟨0, _⟩ => rfl
    | ⟨1, _⟩ => rfl)

/-- The zero accumulator read at an index. -/
theorem zero_acc {s : Shape} (y : s.Idx) : constant (F := Ideal) s .f32 0x00000000#32 y = 0 := Ideal.ofBits_zero_f32

/-- A product of `r` rows with the 4096 feature rows, read at an index. -/
theorem rows_dot {r : ℕ} {φ₁ φ₂ : FTy} (a : FVec Ideal ⟨2, ![r, 4096]⟩ φ₁) (s : FVec Ideal S4096x256 φ₂)
    (y : (⟨2, ![r, 256]⟩ : Shape).Idx) :
    FloatOps.matmul (DotDims.plain r 4096 256) none a s (constant (F := Ideal) ⟨2, ![r, 256]⟩ .f32 0x00000000#32) y
      = ∑ k : Fin 4096, a (ix2 (y 0) k) * s (ix2 k (y 1)) :=
  (congrArg _ (eq_ix2 y)).trans ((Ideal.matmul_plain_apply none a s _ (y 0) (y 1)).trans
    ((congrArg (· + _) (zero_acc _)).trans (zero_add _)))

/-- The product of the sequence with the transposed weights, read at an index. -/
theorem seq_dot (x : FVec Ideal S4096x256 .bf16) (w : FVec Ideal S256x256 .bf16) (y : S4096x256.Idx) :
    FloatOps.matmul (DotDims.transposedRhs 4096 256 256) none x w (constant (F := Ideal) S4096x256 .f32 0x00000000#32) y
      = ∑ k : Fin 256, x (ix2 (y 0) k) * w (ix2 (y 1) k) :=
  (congrArg _ (eq_ix2 y)).trans ((Ideal.matmul_transposedRhs_apply none x w _ (y 0) (y 1)).trans
    ((congrArg (· + _) (zero_acc _)).trans (zero_add _)))

/-- The first point's product is the projected sequence. -/
theorem pay1_eq (v9 : Vec Ideal S4096x256 .bf16) (v11 : Vec Ideal S256x256 .bf16) : k0_pay1 v9 v11 = project v9 v11 := by
  funext y
  unfold k0_pay1
  rw [shapeCast_self, shapeCast_self, shapeCast_self]
  exact seq_dot v9 v11 y

/-- A filling point stores the adjacency block itself. -/
theorem pay3_eq (v10 : Vec Ideal S512x4096 .f32) : k0_pay3 v10 = v10 := by
  unfold k0_pay3 k0_pay2
  dsimp only
  rw [shapeCast_self, shapeCast_self]
  rfl

/-- A filling point's hidden block is a round over its adjacency block. -/
theorem pay4_eq (v10 : Vec Ideal S512x4096 .f32) (v17 : Vec Ideal S4096x256 .f32) (v19 : Vec Ideal S1x256 .f32) :
    k0_pay4 v10 v17 v19 = round v10 v17 v19 := by
  funext y
  unfold k0_pay4 k0_pay2
  dsimp only
  rw [shapeCast_self, shapeCast_self, shapeCast_self]
  exact congrArg₂ (· + ·) (rows_dot (φ₁ := .f32) (φ₂ := .f32) v10 v17 y) (bias_rows v19 broadcasts_S1x256_S512x256 y)

/-- An output point's block is the activated round over its adjacency rows. -/
theorem pay5_eq (v12 : Vec Ideal S1024x4096 .bf16) (v13 : Vec Ideal S4096x256 .bf16) (v15 : Vec Ideal S1x256 .f32)
    (v21 : Vec Ideal S1x1 .f32) (y : S1024x256.Idx) :
    k0_pay5 v12 v13 v15 v21 y = act (v21 (ix2 0 0)) (round v12 v13 v15 y) := by
  have hs : addf (matmul (F := Ideal) (φ₁ := .bf16) (φ₂ := .bf16) dot_S1024x4096_S4096x256_S1024x256_1_0_0_1_n_n none v12 v13
        (constant (F := Ideal) S1024x256 .f32 0x00000000#32))
      (broadcastTo S1024x256 v15 broadcasts_S1x256_S1024x256) y = round v12 v13 v15 y :=
    congrArg₂ (· + ·) (rows_dot (φ₁ := .bf16) (φ₂ := .bf16) v12 v13 y) (bias_rows v15 broadcasts_S1x256_S1024x256 y)
  have hp : extractAt ![0, 0] v21 inpos_S1x1_p0_0 = v21 (ix2 0 0) :=
    congrArg v21 (funext fun a => match a with | ⟨0, _⟩ => rfl | ⟨1, _⟩ => rfl)
  unfold k0_pay5
  rw [shapeCast_self, select_apply, cmpf_apply, mulf_apply, hs]
  show Scalar.select (FloatOps.cmpf (F := Ideal) (φ := .f32) .ogt (round v12 v13 v15 y) (Ideal.ofBits .f32 0x00000000#32))
    (round v12 v13 v15 y) (extractAt ![0, 0] v21 inpos_S1x1_p0_0 * round v12 v13 v15 y) = _
  rw [hp]
  rfl

end Cert.KernelIdeal.Hand

end
-- ==== Proof.Result.lean ====
/- The array the kernel leaves, over the extended reals: the stored blocks put together are the graph convolution. -/
module

public import proofs.«01_k».proof.Proof.Run
public import proofs.«01_k».proof.Proof.Payloads

@[expose] public section

noncomputable section

namespace Cert.KernelIdeal.Hand

open Cert.KernelIdeal Cert.KernelIdeal.Gen Cert.Rows Cert.Gcn
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The first point's product is the projected sequence. -/
theorem projM_eq : projM m c = project (seqV m c) (wV m c) := pay1_eq _ _

/-- The kept adjacency is the adjacency. -/
theorem adjM_eq : adjM m c = adjV m c := funext fun y =>
  stack_eq (by decide) _ y fun b x h0 h1 => (congrFun (pay3_eq (band 512 b (adjV m c))) x).trans (band_apply _ x y h0 h1)

/-- The kept hidden features are the first round's. -/
theorem hidM_eq : hidM m c = hidden (seqV m c) (adjV m c) (wV m c) (biasV m c) := funext fun y =>
  stack_eq (by decide) _ y fun b x h0 h1 => by
    rw [pay4_eq, projM_eq]
    exact round_row _ _ _ _ x y h1.symm fun k => band_apply (adjV m c) (ix2 (x 0) k) (ix2 (y 0) k) h0 rfl

/-- The result is the graph convolution of what the call is given. -/
theorem outM_eq : outM m c = gcn (seqV m c) (adjV m c) (wV m c) (biasV m c) (slopeV m c) := funext fun y =>
  stack_eq (by decide) _ y fun b x h0 h1 => by
    rw [pay5_eq, hidM_eq, adjM_eq]
    exact congrArg (act _) (round_row _ _ _ _ x y h1.symm fun k =>
      band_apply (adjV m c : Mat 4096 4096) (ix2 (x 0) k) (ix2 (y 0) k) h0 rfl)

end Cert.KernelIdeal.Hand

end
-- ==== Proof.Reference.lean ====
/- The reference, read entry by entry over the extended reals: its result is the graph convolution of its arguments. -/
module

public import proofs.«01_k».proof.Proof.Gen.ReferenceIdeal.Read
public import proofs.«01_k».proof.Proof.Layer

@[expose] public section

noncomputable section

namespace Cert.Gcn

open Idealize.ShloMosaic Idealize.ShloMosaic.ValueIdx
open scoped BigOperators

/-- The one matrix of a stack of one. -/
def only {r c : ℕ} (x : (⟨3, ![1, r, c]⟩ : Shape).Idx → EReal) : Mat r c := fun y => x (ix3 0 (y 0) (y 1))
/-- A vector as a matrix of one row. -/
def asRow {c : ℕ} (x : (⟨1, ![c]⟩ : Shape).Idx → EReal) : Mat 1 c := fun y => x (ix1 (y 1))
/-- A scalar as a matrix of one entry. -/
def asEntry (x : (⟨0, ![]⟩ : Shape).Idx → EReal) : Mat 1 1 := fun _ => x ix0

end Cert.Gcn

namespace Cert.ReferenceIdeal.Hand

open Cert.ReferenceIdeal Cert.ReferenceIdeal.Gen Cert.ReferenceIdeal.Read Cert.Gcn
open Idealize.ShloMosaic Idealize.ShloMosaic.ValueIdx
open scoped BigOperators

variable (x0 : (⟨S1x4096x256, .f32⟩ : BufTy).Contents (Elt Ideal)) (x1 : (⟨S1x4096x4096, .f32⟩ : BufTy).Contents (Elt Ideal))
  (x3 : (⟨S256x256, .f32⟩ : BufTy).Contents (Elt Ideal)) (x4 : (⟨S256, .f32⟩ : BufTy).Contents (Elt Ideal))
  (x5 : (⟨S_, .f32⟩ : BufTy).Contents (Elt Ideal))

/-- The first product is the projected sequence. -/
theorem project_ref (r : Fin 4096) (q : Fin 256) :
    val_main_v0 (F := Ideal) x0 x3 (ix3 0 r q) = project (only x0) x3 (ix2 r q) := by
  rw [val_main_v0_apply]
  refine Finset.sum_congr rfl fun k _ => congrArg₂ (· * ·) (congrArg x0 ?_) (congrArg x3 ?_)
  · funext a; match a with | ⟨0, _⟩ => rfl | ⟨1, _⟩ => rfl | ⟨2, _⟩ => rfl
  · funext a; match a with | ⟨0, _⟩ => rfl | ⟨1, _⟩ => rfl

/-- The bias broadcast over the hidden features is the bias of the column, -/
theorem bias_ref (r : Fin 4096) (q : Fin 256) : val_main_v3 (F := Ideal) x4 (ix3 0 r q) = asRow x4 (ix2 0 q) := by
  rw [val_main_v3_apply, val_main_v2_apply]
  refine congrArg x4 ?_
  funext a; match a with | ⟨0, _⟩ => rfl

/-- and so is the one broadcast over the output. -/
theorem bias_ref' (r : Fin 4096) (q : Fin 256) : val_main_v7 (F := Ideal) x4 (ix3 0 r q) = asRow x4 (ix2 0 q) := by
  rw [val_main_v7_apply, val_main_v6_apply]
  refine congrArg x4 ?_
  funext a; match a with | ⟨0, _⟩ => rfl

/-- The first sum is the hidden features. -/
theorem hidden_ref (r : Fin 4096) (q : Fin 256) :
    val_main_v4 (F := Ideal) x0 x1 x3 x4 (ix3 0 r q) = hidden (only x0) (only x1) x3 (asRow x4) (ix2 r q) := by
  rw [val_main_v4_apply, val_main_v1_apply, bias_ref]
  refine congrArg (· + asRow x4 (ix2 0 q)) (Finset.sum_congr rfl fun k _ => congrArg₂ (· * ·) (congrArg x1 ?_) ?_)
  · funext a; match a with | ⟨0, _⟩ => rfl | ⟨1, _⟩ => rfl | ⟨2, _⟩ => rfl
  · refine (congrArg (val_main_v0 (F := Ideal) x0 x3) ?_).trans (project_ref x0 x3 k q)
    funext a; match a with | ⟨0, _⟩ => rfl | ⟨1, _⟩ => rfl | ⟨2, _⟩ => rfl

/-- The second sum is the second round. -/
theorem round_ref (r : Fin 4096) (q : Fin 256) :
    val_main_v8 (F := Ideal) x0 x1 x3 x4 (ix3 0 r q)
      = round (only x1) (hidden (only x0) (only x1) x3 (asRow x4)) (asRow x4) (ix2 r q) := by
  rw [val_main_v8_apply, val_main_v5_apply, bias_ref']
  refine congrArg (· + asRow x4 (ix2 0 q)) (Finset.sum_congr rfl fun k _ => congrArg₂ (· * ·) (congrArg x1 ?_) ?_)
  · funext a; match a with | ⟨0, _⟩ => rfl | ⟨1, _⟩ => rfl | ⟨2, _⟩ => rfl
  · refine (congrArg (val_main_v4 (F := Ideal) x0 x1 x3 x4) ?_).trans (hidden_ref x0 x1 x3 x4 k q)
    funext a; match a with | ⟨0, _⟩ => rfl | ⟨1, _⟩ => rfl | ⟨2, _⟩ => rfl

/-- The selected value is the activated second round. -/
theorem act_ref (r : Fin 4096) (q : Fin 256) :
    val_main_v13 (F := Ideal) x0 x1 x3 x4 x5 (ix3 0 r q)
      = gcn (only x0) (only x1) x3 (asRow x4) (asEntry x5) (ix2 r q) := by
  have hp : val_main_v11 (F := Ideal) x5 (ix3 0 r q) = asEntry x5 (ix2 0 0) := by
    rw [val_main_v11_apply]
    exact congrArg x5 (funext fun a => a.elim0)
  rw [val_main_v13_apply, val_main_v10_apply, val_main_v12_apply, val_main_v9_apply, val_main_cst_apply, hp, round_ref]
  rfl

/-- The reference's result is the graph convolution of its arguments. -/
theorem result_ref : val_main_v14 (F := Ideal) x0 x1 x3 x4 x5 = gcn (only x0) (only x1) x3 (asRow x4) (asEntry x5) := by
  funext y
  rw [val_main_v14_apply]
  refine (congrArg (val_main_v13 (F := Ideal) x0 x1 x3 x4 x5) ?_).trans
    ((act_ref x0 x1 x3 x4 x5 (y 0) (y 1)).trans (congrArg _ (eq_ix2 y).symm))
  have h0 : (y 0).val < 4096 := (y 0).isLt
  have h1 : (y 1).val < 256 := (y 1).isLt
  funext a
  apply Fin.ext
  match a with
  | ⟨0, _⟩ => rfl
  | ⟨1, _⟩ => show ((y 0).val * 256 + (y 1).val) / 256 % 4096 = (y 0).val; omega
  | ⟨2, _⟩ => show ((y 0).val * 256 + (y 1).val) % 256 = (y 1).val; omega

end Cert.ReferenceIdeal.Hand

end
-- ==== Proof.Entry.lean ====
/- What the operations before the kernel leave in the arrays it reads, over the extended reals: the arguments
   themselves, the reshapes undone and the format changes being the identity there. -/
module

public import proofs.«01_k».proof.Proof.Blocks
public import proofs.«01_k».proof.Proof.Reference
public import Idealize.ShloMosaic.Lib.ValueIdx

@[expose] public section

noncomputable section

namespace Cert.KernelIdeal.Hand

open Cert.KernelIdeal Cert.KernelIdeal.Gen Cert.Gcn
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (c : Dev nD)

/-- Dropping a leading axis of extent one reads the one matrix. -/
theorem drop_axis {r q : ℕ} (x : (⟨3, ![1, r, q]⟩ : Shape).Idx → EReal)
    (h : (⟨3, ![1, r, q]⟩ : Shape).ShapeCasts ⟨2, ![r, q]⟩) : shapeCast ⟨2, ![r, q]⟩ x h = only x :=
  funext fun y => shapeCast_apply x h y (ix3 0 (y 0) (y 1)) (by
    rewrite [Shape.rowMajor_val_three, Shape.rowMajor_val_two]
    show (0 * r + (y 0).val) * q + (y 1).val = (y 0).val * q + (y 1).val
    rw [Nat.zero_mul, Nat.zero_add])

theorem adjV_eq : adjV m c = only (m ((c.tc : Thread nD τ).loc main_arg1)) := by
  have e : V m c main_v2 = shapeCast S4096x4096 (m ((c.tc : Thread nD τ).loc main_arg1)) shapeCasts_S1x4096x4096_S4096x4096 := by
    unfold V hostOps0
    after_results <;> rfl
  exact e.trans (drop_axis _ _)

theorem seqV_eq : seqV m c = only (m ((c.tc : Thread nD τ).loc main_arg0)) := by
  have e : V m c main_v1 = truncf (F := Ideal) .bf16
      (shapeCast S4096x256 (m ((c.tc : Thread nD τ).loc main_arg0)) shapeCasts_S1x4096x256_S4096x256) bitsLt_bf16_f32 := by
    unfold V hostOps0
    after_results <;> rfl
  exact e.trans (drop_axis _ shapeCasts_S1x4096x256_S4096x256)

theorem wV_eq : wV m c = m ((c.tc : Thread nD τ).loc main_arg3) := by
  have e : V m c main_v5 = truncf (F := Ideal) .bf16 (m ((c.tc : Thread nD τ).loc main_arg3)) bitsLt_bf16_f32 := by
    unfold V hostOps0
    after_results <;> rfl
  exact e

theorem biasV_eq : biasV m c = asRow (m ((c.tc : Thread nD τ).loc main_arg4)) := by
  have e : V m c main_v3 = shapeCast S1x256 (m ((c.tc : Thread nD τ).loc main_arg4)) shapeCasts_S256_S1x256 := by
    unfold V hostOps0
    after_results <;> rfl
  refine e.trans (funext fun y => shapeCast_apply _ shapeCasts_S256_S1x256 y (ix1 (y 1)) ?_)
  have h0 : (y 0).val < 1 := (y 0).isLt
  rewrite [Shape.rowMajor_val_one, Shape.rowMajor_val_two]
  show (y 1).val = (y 0).val * 256 + (y 1).val
  omega

theorem slopeV_eq : slopeV m c = asEntry (m ((c.tc : Thread nD τ).loc main_arg5)) := by
  have e : V m c main_v4 = shapeCast S1x1 (m ((c.tc : Thread nD τ).loc main_arg5)) shapeCasts_S_S1x1 := by
    unfold V hostOps0
    after_results <;> rfl
  refine e.trans (funext fun y => ?_)
  unfold shapeCast asEntry
  exact congrArg (m ((c.tc : Thread nD τ).loc main_arg5)) (funext fun a => a.elim0)

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Result
public import proofs.«01_k».proof.Proof.Entry
public import proofs.«01_k».proof.Proof.Reference
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The real-valued kernel ends, changes no argument, and leaves every counter at zero. -/
theorem quiescent_ideal (hk : Cert.KernelIdeal.Facts) : Cert.quiescent_KernelIdeal (hKernelIdeal := hk) := fun m ρ _ =>
  θ_run_and (Cert.KernelIdeal.Hand.unchanged m ρ) (Cert.KernelIdeal.Hand.quiet m ρ)

/-- The reference ends, changes no argument, and has no counter to leave elsewhere. -/
theorem quiescent_reference (hr : Cert.ReferenceIdeal.Facts) : Cert.quiescent_ReferenceIdeal (hReferenceIdeal := hr) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- From equal arguments the reference's result is the array the kernel leaves. -/
theorem results_agree (m : (ℓ : Loc Cert.KernelIdeal.nD Cert.KernelIdeal.τ Cert.KernelIdeal.sig) → Buf (Elt Ideal) ℓ)
    (c : Dev Cert.KernelIdeal.nD) {x0 x1 x3 x4 x5}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5)) :
    Cert.ReferenceIdeal.Read.val_main_v14 (F := Ideal) x0 x1 x3 x4 x5 = Cert.KernelIdeal.Hand.outM m c := by
  subst h0 h1 h3 h4 h5
  rw [Cert.ReferenceIdeal.Hand.result_ref, Cert.KernelIdeal.Hand.outM_eq, Cert.KernelIdeal.Hand.seqV_eq,
    Cert.KernelIdeal.Hand.adjV_eq, Cert.KernelIdeal.Hand.wV_eq, Cert.KernelIdeal.Hand.biasV_eq, Cert.KernelIdeal.Hand.slopeV_eq]

/-- Kernel and reference, from equal arguments, end with equal results and their arguments unchanged. -/
theorem value (hk : Cert.KernelIdeal.Facts) (hr : Cert.ReferenceIdeal.Facts) :
    Cert.algebraic_KernelIdeal_ReferenceIdeal (hKernelIdeal := hk) (hReferenceIdeal := hr) := by
  intro m ρ m' ρ' _ hm
  refine ⟨fun c => Cert.KernelIdeal.Hand.outM m c, ?_, ?_⟩
  · exact (θ_run Cert.KernelIdeal.defs _ _).mono (fun r h c => ⟨h.1 c, h.2 c⟩)
      (θ_run_and (Cert.KernelIdeal.Hand.computes m ρ) (Cert.KernelIdeal.Hand.unchanged m ρ))
  · refine (θ_run Cert.ReferenceIdeal.defs _ _).mono (fun r h c => ⟨(h c).1.trans ?_, (h c).2⟩)
      (Cert.ReferenceIdeal.Value.run (F := Ideal) m' ρ')
    obtain ⟨h0, h1, -, h3, h4, h5⟩ := hm c
    exact (Cert.ReferenceIdeal.Read.val_main_v14_eq _ _ _ _ _).trans (results_agree m c h0 h1 h3 h4 h5)

/-- All five claims. -/
theorem claim : Cert.Claim := ⟨Cert.Kernel.Gen.facts, Cert.KernelIdeal.Gen.facts, Cert.ReferenceIdeal.Gen.facts,
  Cert.Kernel.Hand.quiescent _, quiescent_ideal _, quiescent_reference _, trivial, value _ _⟩

end Cert.Proof

end
